-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v3)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v3) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v1) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S2x128 : Shape := ⟨2, ![2, 128]⟩
abbrev S_ : Shape := ⟨0, ![]⟩
abbrev S1 : Shape := ⟨1, ![1]⟩
abbrev S1x128 : Shape := ⟨2, ![1, 128]⟩
abbrev S128 : Shape := ⟨1, ![128]⟩

abbrev nBuf : Table → Nat
  | .hbm => 6
  | .local .scScalar .smem => 1
  | _ => 0

abbrev bufTy : (tb : Table) → Fin (nBuf tb) → BufTy
  | .hbm, ⟨0, _⟩ => ⟨S2x128, .f32⟩
  | .hbm, ⟨1, _⟩ => ⟨S_, .i1⟩
  | .hbm, ⟨2, _⟩ => ⟨S_, .i32⟩
  | .hbm, ⟨3, _⟩ => ⟨S1, .i32⟩
  | .hbm, ⟨4, _⟩ => ⟨S1x128, .f32⟩
  | .hbm, ⟨5, _⟩ => ⟨S128, .f32⟩
  | .local .scScalar .smem, ⟨0, _⟩ => ⟨S1, .i32⟩
  | _, _ => ⟨S2x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v1_scs : Ref sig .scScalar := ⟨.hbm, 3, rfl⟩
abbrev main_arg0_scs : Ref sig .scScalar := ⟨.hbm, 0, rfl⟩
abbrev main_v2_scs : Ref sig .scScalar := ⟨.hbm, 4, rfl⟩
abbrev cc0_scratch0 : Ref sig .scScalar := ⟨.smem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S2x128 : Shape := ⟨2, ![2, 128]⟩
abbrev S_ : Shape := ⟨0, ![]⟩
abbrev S1 : Shape := ⟨1, ![1]⟩
abbrev S128 : Shape := ⟨1, ![128]⟩

abbrev nBuf : Space → Nat
  | .hbm => 22
  | .vmem => 0
  | .smem => 0
  | _ => 0

abbrev bufTy : (tb : Table) → Fin (tcTables nBuf tb) → BufTy
  | .hbm, ⟨0, _⟩ => ⟨S2x128, .f32⟩
  | .hbm, ⟨1, _⟩ => ⟨S_, .i1⟩
  | .hbm, ⟨2, _⟩ => ⟨S_, .i32⟩
  | .hbm, ⟨3, _⟩ => ⟨S_, .i32⟩
  | .hbm, ⟨4, _⟩ => ⟨S_, .i1⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S1, .i32⟩
  | .hbm, ⟨9, _⟩ => ⟨S1, .i32⟩
  | .hbm, ⟨10, _⟩ => ⟨S_, .i32⟩
  | .hbm, ⟨11, _⟩ => ⟨S1, .i32⟩
  | .hbm, ⟨12, _⟩ => ⟨S1, .i1⟩
  | .hbm, ⟨13, _⟩ => ⟨S1, .i1⟩
  | .hbm, ⟨14, _⟩ => ⟨S1, .i1⟩
  | .hbm, ⟨15, _⟩ => ⟨S_, .i1⟩
  | .hbm, ⟨16, _⟩ => ⟨S_, .i1⟩
  | .hbm, ⟨17, _⟩ => ⟨S128, .f32⟩
  | .hbm, ⟨18, _⟩ => ⟨S128, .i1⟩
  | .hbm, ⟨19, _⟩ => ⟨S_, .f32⟩
  | .hbm, ⟨20, _⟩ => ⟨S128, .f32⟩
  | .hbm, ⟨21, _⟩ => ⟨S128, .f32⟩
  | _, _ => ⟨S2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_c_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_c_1 : Ref sig .tc := ⟨.hbm, 9, rfl⟩
abbrev main_call0_c_2 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_c_3 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_cst : Ref sig .tc := ⟨.hbm, 19, rfl⟩
abbrev main_call0_v11 : Ref sig .tc := ⟨.hbm, 20, rfl⟩
abbrev main_v1 : Ref sig .tc := ⟨.hbm, 21, rfl⟩

abbrev nD : Nat := 1
abbrev τ : Topo := Topo.v7x

variable {F : FTy → Type} [FloatOps F]
-- ==== Proof.Row.lean ====
/-
  The row that the program looks up, as a function on arrays: what the scalar subcore's two copies leave in the
  [1, 128] result (`picked`, by the index word) and what the program returns (`chosen`, by the flag). Nothing here
  speaks of memory or of floats: the table's elements are of any type.
-/
module

public import Idealize.ShloMosaic.Lib.ValueIdxCore
public import Idealize.ShloMosaic.Lib.Pipeline.Value
public import Idealize.ShloMosaic.Lib.ValueLayout
public import proofs.«01_k».proof.Proof.Gen.KernelIdeal

@[expose] public section

noncomputable section

namespace Cert.Proof.Row

open Cert.KernelIdeal Cert.KernelIdeal.Gen
open Idealize.ShloMosaic Idealize.ShloMosaic.ValueIdx

variable {α : Type}

/-- Row `k` of the table, as a [1, 128] array. -/
def row (k : Fin 2) (t : S2x128.Idx → α) : S1x128.Idx → α := fun j => t (ix2 k (j 1))

/-- What the kernel leaves in its result: row 0 if the index word is zero, and row 1 otherwise. -/
def picked (w : BitVec 32) (t : S2x128.Idx → α) : S1x128.Idx → α := if w = 0#32 then row 0 t else row 1 t

/-- What the program returns: row 1 of the table if the flag is set, and row 0 otherwise. -/
def chosen (b : BitVec 1) (t : S2x128.Idx → α) : S128.Idx → α := fun j => t (ix2 (if b = 1#1 then 1 else 0) (j 0))

/-- The flag widened to a 32-bit word is zero exactly when the flag is not set. -/
theorem widened_eq_zero (b : BitVec 1) : b.setWidth 32 = 0#32 ↔ ¬ b = 1#1 := by
  revert b; decide

/-- The branch condition that the kernel computes from the index word: taken exactly when the word is zero. -/
theorem branch_iff (w : BitVec 32) : Scalar.cmpi .ne (Scalar.extui (Scalar.cmpi .eq w 0#32) : BitVec 32) 0#32 = 1#1 ↔ w = 0#32 := by
  by_cases h : w = 0#32
  · subst h; decide
  · have h0 : (Scalar.cmpi .eq w 0#32 : BitVec 1) = 0#1 := by
      simp only [Scalar.cmpi, IntOp.cmpi, beq_eq_false_iff_ne.mpr h]; rfl
    rw [h0]
    exact ⟨fun hh => absurd hh (by decide), fun hh => absurd hh h⟩

/-- The [1, 128] result of the flag's word, reshaped to [128], is the row that the flag chooses. -/
theorem reshape_picked (b : BitVec 1) (t : S2x128.Idx → α) :
    shapeCast S128 (picked (b.setWidth 32) t) shapeCasts_S1x128_S128 = chosen b t := by
  funext j
  obtain ⟨i, rfl⟩ : ∃ i : Fin 128, j = ix1 i := ⟨j 0, eq_ix1 j⟩
  refine (shapeCast_1a_a_apply (a := 128) _ _ i).trans ?_
  simp only [picked, chosen, widened_eq_zero, ite_not]
  split <;> rfl

end Cert.Proof.Row

end
-- ==== Proof.Body.lean ====
/-
  The kernel's body on SparseCore 0's scalar subcore. It starts two copies at once — the index word into its scalar
  memory, and row 1 of the table into the result —, waits for both, and, if the word is zero, copies row 0 over the
  result. `lookup_run` runs it from any contents: it ends with the result at the row that the word picks, the index array
  and the table as they were, and its three semaphore cells back at zero.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Row

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type}

/-! ## What the launch theorem is told of the program -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

local notation "iW" => (Memref.whole Cert.KernelIdeal.main_v1_scs : Memref Cert.KernelIdeal.sig Kind.scScalar Space.hbm Cert.KernelIdeal.S1 EltTy.i32)
local notation "tW" => (Memref.whole Cert.KernelIdeal.main_arg0_scs : Memref Cert.KernelIdeal.sig Kind.scScalar Space.hbm Cert.KernelIdeal.S2x128 EltTy.f32)
local notation "oW" => (Memref.whole Cert.KernelIdeal.main_v2_scs : Memref Cert.KernelIdeal.sig Kind.scScalar Space.hbm Cert.KernelIdeal.S1x128 EltTy.f32)
local notation "wW" => (Memref.whole Cert.KernelIdeal.cc0_scratch0 : Memref Cert.KernelIdeal.sig Kind.scScalar Space.smem Cert.KernelIdeal.S1 EltTy.i32)

/-! ## What the copies and the load carry -/

/-- A copy of one row's slice of the table carries that row. -/
theorem read_row (k : Fin 2) (off : Fin 2 → Nat) (h0 : off 0 = k.val) (h1 : off 1 = 0) (hin) (hu)
    (t : S2x128.Idx → Elt F .f32) :
    View.read (Elt F) ((tW).slice (Rect.unit (s := S2x128) off S1x128.size hin) hu).view t = Row.row k t := by
  funext j
  show t _ = t _
  congr 1
  funext a
  refine Fin.ext ?_
  match a with
  | ⟨0, _⟩ =>
    show off 0 + 1 * (j 0).val = k.val
    have : (j 0).val < 1 := (j 0).isLt
    omega
  | ⟨1, _⟩ =>
    show off 1 + 1 * (j 1).val = (j 1).val
    omega

/-- Every index of a one-element array is the same. -/
theorem idx1_eq (x y : S1.Idx) : x = y := funext fun a => match a with | ⟨0, _⟩ => Subsingleton.elim (α := Fin 1) _ _

/-- The word the scalar subcore loads from its scratch, after the copy into it of the index array, is that array's
    one word. -/
theorem load_word (fw fi : S1.Idx → Elt F .i32) (r : LoadRect S1) (x) :
    View.readAt (Elt F) (wW).view r (View.write (Elt F) (wW).view fw fi Finset.univ) x = fi (ix1 (0 : Fin 1)) := by
  rw [View.write_whole_univ]
  exact congrArg fi (idx1_eq _ _)

/-! ## The run -/

variable [FloatOps F] (d : Dev nD)

/-- The grid coordinates of SparseCore `c`. -/
def coordsOf (c : Fin (grid0.bound 0)) : grid0.Coords := fun | 0 => c | ⟨_ + 1, h⟩ => absurd h (Nat.not_lt.2 (Nat.le_add_left _ _))

/-- SparseCore 0's scalar subcore on device `d`, as a thread. -/
abbrev seqr (h : 0 < grid0.bound 0) : Thread nD τ := S d ((⟨0, h⟩ : Fin (grid0.bound 0)).castLE hcore0)

/-- The body's run. From the index array at `fi`, the table at `ft`, the result and the scalar scratch at anything, and
    the three cells at zero: it terminates with the result at the row of `ft` that the word of `fi` picks, `fi` and `ft`
    unchanged, and the cells at zero again. -/
theorem lookup_run (h : 0 < grid0.bound 0) (O : CellTallies nD τ sig (HIx 1)) (W : Waits sig (HIx 1))
    (fi : Buf (Elt F) ((iW).view.loc (seqr d h))) (ft : Buf (Elt F) ((tW).view.loc (seqr d h)))
    (fo : Buf (Elt F) ((oW).view.loc (seqr d h))) (fw : Buf (Elt F) ((wW).view.loc (seqr d h))) :
    (iprop(Transfers.MayWaits (seqr d h) (none : HIx 1) O
        ∗ ((iW).view.loc (seqr d h) ↦{fullShare} fi)
        ∗ ((tW).view.loc (seqr d h) ↦{fullShare} ft)
        ∗ ((oW).view.loc (seqr d h) ↦{fullShare} fo)
        ∗ ((wW).view.loc (seqr d h) ↦{fullShare} fw)
        ∗ semVal (seqr d h, SemLoc.dma cc0_scratch1.sem) 0
        ∗ semVal (seqr d h, SemLoc.dma cc0_scratch2.sem) 0
        ∗ semVal (seqr d h, SemLoc.dma cc0_scoped0.sem) 0
        ∗ owes (seqr d h) O W) : sProp 𝕄)
      ⊢ wp frame (wpE (defs₀ (F := F)) 𝒱₀ (seqr d h) none) Set.univ
          (cc0__lookup (coordsOf ⟨0, h⟩) iW (Memref.isWhole_whole _) tW (Memref.isWhole_whole _) oW (Memref.isWhole_whole _)
            wW (Memref.isWhole_whole _) cc0_scratch1 cc0_scratch2 cc0_scoped0)
          fun _ => iprop(((iW).view.loc (seqr d h) ↦{fullShare} fi)
            ∗ ((tW).view.loc (seqr d h) ↦{fullShare} ft)
            ∗ ((oW).view.loc (seqr d h) ↦{fullShare} Row.picked (fi (ix1 (0 : Fin 1))) ft)
            ∗ (∃ f, (wW).view.loc (seqr d h) ↦{fullShare} f)
            ∗ semVal (seqr d h, SemLoc.dma cc0_scratch1.sem) 0
            ∗ semVal (seqr d h, SemLoc.dma cc0_scratch2.sem) 0
            ∗ semVal (seqr d h, SemLoc.dma cc0_scoped0.sem) 0
            ∗ ∃ W', owes (seqr d h) O W') := by
  sl_unfold [cc0__lookup]
  iintro ⟨#Hmw, Hi, Ht, Ho, Hw, Hc0, Hc1, Hc2, HO⟩
  sl_exec
  sl_step
  have hv : Cert.Proof.Lookup.lookup_run.sl.v6 d h fi fw = 1#1 ↔ fi (ix1 (0 : Fin 1)) = 0#32 := by
    unfold Cert.Proof.Lookup.lookup_run.sl.v6 Cert.Proof.Lookup.lookup_run.sl.v5 Cert.Proof.Lookup.lookup_run.sl.v4
      Cert.Proof.Lookup.lookup_run.sl.r
    refine (Eq.to_iff (congrArg (fun w => Scalar.cmpi .ne (Scalar.extui (Scalar.cmpi .eq w 0#32) : BitVec 32) 0#32 = 1#1) ?_)).trans (Row.branch_iff _)
    exact load_word fw fi _ _
  have h1 : ∀ g, View.write (Elt F) (oW).view g (Cert.Proof.Lookup.lookup_run.sl.dma0_1 d h ft) Finset.univ = Row.row 1 ft :=
    fun g => (View.write_whole_univ ..).trans (read_row 1 ![1, 0] rfl rfl _ _ ft)
  have h0 : ∀ g, View.write (Elt F) (oW).view g (Cert.Proof.Lookup.lookup_run.sl.dma1 d h ft) Finset.univ = Row.row 0 ft :=
    fun g => (View.write_whole_univ ..).trans (read_row 0 ![0, 0] rfl rfl _ _ ft)
  -- the result as the branch leaves it
  have hp : ∀ g, Row.picked (fi (ix1 (0 : Fin 1))) ft
      = if _ : Cert.Proof.Lookup.lookup_run.sl.v6 d h fi fw = 1#1 then
          View.write (Elt F) (oW).view (View.write (Elt F) (oW).view g (Cert.Proof.Lookup.lookup_run.sl.dma0_1 d h ft) Finset.univ)
            (Cert.Proof.Lookup.lookup_run.sl.dma1 d h ft) Finset.univ
        else View.write (Elt F) (oW).view g (Cert.Proof.Lookup.lookup_run.sl.dma0_1 d h ft) Finset.univ := by
    intro g
    rw [h0, h1, dite_eq_ite]
    by_cases hz : fi (ix1 (0 : Fin 1)) = 0#32
    · rw [if_pos (hv.mpr hz)]; exact if_pos hz
    · rw [if_neg (mt hv.mp hz)]; exact if_neg hz
  irw [hp fo]
  isplitl [Hi]; · iexact Hi
  isplitl [Ht]; · iexact Ht
  isplitl [Ho]; · iexact Ho
  isplitl [Hw]; · iexists _; iexact Hw
  isplitl [Hc0]; · iexact Hc0
  isplitl [Hc1]; · iexact Hc1
  isplitl [Hc2]; · iexact Hc2
  iexists _; iexact HO

end Cert.Proof.Lookup

end
-- ==== Proof.Launch.lean ====
/-
  The whole program's run: @main widens the flag to a word, makes a one-element index array of it, hands the index array,
  the table and the result's buffer to SparseCore 0's scalar subcore (Body.lean), and reshapes what comes back.
  `run_main`: its result ends at the row of the table that the flag chooses, the arguments unchanged, every
  semaphore counter at zero.
-/
module

public import proofs.«01_k».proof.Proof.Body

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic
open Idealize.ShloMosaic.ValueIdx (ix0 ix1 ix2)

variable {F : FTy → Type}

local notation "𝕄" => MT nD τ sig (HIx 1) (Elt F) ℕ UU ℕ

local notation "iW" => (Memref.whole Cert.KernelIdeal.main_v1_scs : Memref Cert.KernelIdeal.sig Kind.scScalar Space.hbm Cert.KernelIdeal.S1 EltTy.i32)
local notation "tW" => (Memref.whole Cert.KernelIdeal.main_arg0_scs : Memref Cert.KernelIdeal.sig Kind.scScalar Space.hbm Cert.KernelIdeal.S2x128 EltTy.f32)
local notation "oW" => (Memref.whole Cert.KernelIdeal.main_v2_scs : Memref Cert.KernelIdeal.sig Kind.scScalar Space.hbm Cert.KernelIdeal.S1x128 EltTy.f32)
local notation "wW" => (Memref.whole Cert.KernelIdeal.cc0_scratch0 : Memref Cert.KernelIdeal.sig Kind.scScalar Space.smem Cert.KernelIdeal.S1 EltTy.i32)

/-- The program's handshake semaphores are four different ones and no scoped allocation touches them. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The arrays -/

variable (m : (ℓ : Loc nD τ sig) → Buf (Elt F) ℓ) (ρ : Dev nD → PrngReg)

/-- The table, the flag, the index array, the kernel's result, the program's result, and the scalar subcore's scratch. -/
abbrev tLoc (d : Dev nD) : Loc nD τ sig := (SparseCore.T d).loc main_arg0
abbrev bLoc (d : Dev nD) : Loc nD τ sig := (SparseCore.T d).loc main_arg1
abbrev iLoc (d : Dev nD) : Loc nD τ sig := (SparseCore.T d).loc main_v1
abbrev oLoc (d : Dev nD) : Loc nD τ sig := (SparseCore.T d).loc main_v2
abbrev rLoc (d : Dev nD) : Loc nD τ sig := (SparseCore.T d).loc main_v3
abbrev wLoc (d : Dev nD) (c : Fin τ.nSC) : Loc nD τ sig := (S d c).loc cc0_scratch0

/-- The flag as a 32-bit word. -/
def word (d : Dev nD) : BitVec 32 := (m (bLoc d) ix0).setWidth 32

/-- The index array that @main passes to the kernel: its one element is the flag as a word. -/
def idxArr (d : Dev nD) : Buf (Elt F) (iLoc d) := fun _ => word m d

/-- The index array at the flag's word, the table at its launch contents, and the [1, 128] result at the row that the
    word picks. -/
abbrev idxPts (d : Dev nD) : sProp 𝕄 := iLoc d ↦{fullShare} idxArr m d
abbrev tabPts (d : Dev nD) : sProp 𝕄 := tLoc d ↦{fullShare} m (tLoc d)
abbrev flagPts (d : Dev nD) : sProp 𝕄 := bLoc d ↦{fullShare} m (bLoc d)
abbrev outPts (d : Dev nD) : sProp 𝕄 := oLoc d ↦{fullShare} Row.picked (word m d) (m (tLoc d))

/-- What the call takes — the index array, the table, and the result's buffer at anything — and what it hands back: the
    same with the result's buffer at the row that the word picks. -/
def P : (K (F := F)).Pay (nD := nD) (Val := Elt F) (Name := ℕ) (U := UU) where
  st := fun _ d _ => iprop(idxPts m d ∗ tabPts m d ∗ ∃ f, oLoc d ↦{fullShare} f)
  dn := fun _ d _ => iprop(idxPts m d ∗ tabPts m d ∗ outPts m d)
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The scalar subcore's own cells and scratch -/

section Own

variable (d : Dev nD) (c : Fin τ.nSC)

/-- The three cells that the body names. -/
def cell (k : Fin 3) : GSem nD τ sig := (S d c, .dma ⟨k.val, k.isLt⟩)

theorem cell_mem (k : Fin 3) : cell d c k ∈ ownCells (S d c) :=
  mem_ownCells.mpr ⟨rfl, (show ∀ s : DmaSem sig, (SemLoc.dma s : SemLoc sig).isScoped .scScalar = true by decide) _⟩

theorem cell_inj : Function.Injective (cell d c) := fun a b h => by
  have h2 := congrArg (fun g : GSem nD τ sig => g.2) h
  simp only [cell, SemLoc.dma.injEq, Fin.mk.injEq] at h2
  exact Fin.ext h2

/-- The scalar subcore's cells at zero are the body's three and the rest. -/
theorem ownSems0_split :
    (ownSems0 (S d c) : sProp 𝕄)
      = iprop((semVal (S d c, SemLoc.dma cc0_scratch1.sem) 0 ∗ semVal (S d c, SemLoc.dma cc0_scratch2.sem) 0
            ∗ semVal (S d c, SemLoc.dma cc0_scoped0.sem) 0)
          ∗ bigSep ((ownCells (S d c)) \ Finset.univ.image (cell d c)) fun g => semVal g 0) := by
  unfold SparseCore.Cfg.ownSems0
  rw [SparseCore.bigSep_sdiff_split' (t := Finset.univ.image (cell d c)) (Finset.image_subset_iff.mpr fun k _ => cell_mem d c k),
    SparseCore.bigSep_image_of_injOn ((cell_inj d c).injOn)]
  rw [show (Finset.univ : Finset (Fin 3)) = {0, 1, 2} by decide,
    SparseCore.bigSep_insert' (by decide), SparseCore.bigSep_insert' (by decide), bigSep_singleton]
  rfl

/-- The scalar subcore's buffers are its scratch, at some contents, and the rest. -/
theorem ownBufs_split :
    (ownBufs (S d c) : sProp 𝕄)
      = iprop((∃ f, wLoc d c ↦{fullShare} f)
          ∗ bigSep ((ownRefs (τ := τ) (.scScalar c)).erase ((Proc.scScalar c).devRef cc0_scratch0)) fun b => iprop(∃ f, ((d, b) : Loc nD τ sig) ↦{fullShare} f)) := by
  unfold SparseCore.Cfg.ownBufs
  exact SparseCore.bigSep_erase' ((mem_ownRefs (p := Proc.scScalar c) (b := (Proc.scScalar c).devRef cc0_scratch0)).mpr rfl)

/-! The arrays as the scalar subcore addresses them are the TensorCore's arrays. -/

theorem pts_i (f : Buf (Elt F) (iLoc d)) : ((iW).view.loc (S d c) ↦{fullShare} f : sProp 𝕄) = iLoc d ↦{fullShare} f := by
  simp only [Memref.view_whole, View.set_whole]
theorem pts_t (f : Buf (Elt F) (tLoc d)) : ((tW).view.loc (S d c) ↦{fullShare} f : sProp 𝕄) = tLoc d ↦{fullShare} f := by
  simp only [Memref.view_whole, View.set_whole]
theorem pts_o (f : Buf (Elt F) (oLoc d)) : ((oW).view.loc (S d c) ↦{fullShare} f : sProp 𝕄) = oLoc d ↦{fullShare} f := by
  simp only [Memref.view_whole, View.set_whole]
theorem pts_w (f : Buf (Elt F) (wLoc d c)) : ((wW).view.loc (S d c) ↦{fullShare} f : sProp 𝕄) = wLoc d c ↦{fullShare} f := by
  simp only [Memref.view_whole, View.set_whole]

end Own

/-! ## The call's obligation -/

variable [FloatOps F]

/-- The body in the form the launch asks for: the scratch and the cells taken out of what the scalar subcore owns, and put
    back after the run. -/
theorem body_obl (d : Dev nD) (hF : (K (F := F)).Facts) (h : 0 < grid0.bound 0) (O : CellTallies nD τ sig (HIx 1)) (W : Waits sig (HIx 1))
    (hO : ∀ g, O g none = 0) :
    iprop(levAts (K (F := F)).L (K (F := F)).lev ∗ emp ∗ (idxPts m d ∗ tabPts m d ∗ ∃ f, oLoc d ↦{fullShare} f)
        ∗ scopedBufs (seqr d h) ∗ scopedSems0 (seqr d h) ∗ owes (seqr d h) O W)
      ⊢ wp frame (wpE (defs₀ (F := F)) 𝒱₀ (seqr d h) none) Set.univ
          (cc0__lookup (coordsOf ⟨0, h⟩) iW (Memref.isWhole_whole _) tW (Memref.isWhole_whole _) oW (Memref.isWhole_whole _)
            wW (Memref.isWhole_whole _) cc0_scratch1 cc0_scratch2 cc0_scoped0)
          fun _ => iprop((idxPts m d ∗ tabPts m d ∗ outPts m d) ∗ scopedBufs (seqr d h) ∗ scopedSems0 (seqr d h)
            ∗ ∃ W', ⌜∀ p ∈ W', p ∈ W ∨ p.2 = none ∨ p.2 = some (0 : Fin 1)⌝ ∗ owes (seqr d h) O W') := by
  rw [(K (F := F)).scopedBufs_S hF d _, SparseCore.Cfg.scopedSems0_S (Val := Elt F) d _, ownSems0_split, ownBufs_split]
  iintro ⟨#Hlv, -, ⟨Hi, Ht, %fo, Ho⟩, ⟨⟨⟨%fw, Hw⟩, Hbufs⟩, Htiles⟩, ⟨⟨⟨Hc0, Hc1, Hc2⟩, Hsems⟩, HtileSems⟩, HO⟩
  ihave Hmw := ((K (F := F)).mayWaits_none (thr := seqr d h) hO) $$ Hlv
  ihave Hi' := (Entails.of_eq (pts_i (F := F) d _ _).symm) $$ Hi
  ihave Ht' := (Entails.of_eq (pts_t (F := F) d _ _).symm) $$ Ht
  ihave Ho' := (Entails.of_eq (pts_o (F := F) d _ _).symm) $$ Ho
  ihave Hw' := (Entails.of_eq (pts_w (F := F) d _ _).symm) $$ Hw
  iapply (wp_wand_r Idealize.ShloMosaic.frame (wpE (defs₀ (F := F)) 𝒱₀ (seqr d h) none) Set.univ)
  isplitl [Hi' Ht' Ho' Hw' Hc0 Hc1 Hc2 HO]
  · iapply (lookup_run d h O W _ _ _ _)
    isplitr; · iexact Hmw
    isplitl [Hi']; · iexact Hi'
    isplitl [Ht']; · iexact Ht'
    isplitl [Ho']; · iexact Ho'
    isplitl [Hw']; · iexact Hw'
    isplitl [Hc0]; · iexact Hc0
    isplitl [Hc1]; · iexact Hc1
    isplitl [Hc2]; · iexact Hc2
    iexact HO
  iintro %_ ⟨Hi', Ht', Ho', ⟨%f2, Hw'⟩, Hc0, Hc1, Hc2, %W', HO⟩
  isplitl [Hi' Ht' Ho']
  · isplitl [Hi']; · iapply (Entails.of_eq (pts_i (F := F) d _ _)); iexact Hi'
    isplitl [Ht']; · iapply (Entails.of_eq (pts_t (F := F) d _ _)); iexact Ht'
    iapply (Entails.of_eq (pts_o (F := F) d _ _)); iexact Ho'
  isplitl [Hw' Hbufs Htiles]
  · isplitl [Hw' Hbufs]
    · isplitl [Hw']; · iexists _; iapply (Entails.of_eq (pts_w (F := F) d _ _)); iexact Hw'
      iexact Hbufs
    iexact Htiles
  isplitl [Hc0 Hc1 Hc2 Hsems HtileSems]
  · isplitl [Hc0 Hc1 Hc2 Hsems]
    · isplitl [Hc0 Hc1 Hc2]
      · isplitl [Hc0]; · iexact Hc0
        isplitl [Hc1]; · iexact Hc1
        iexact Hc2
      iexact Hsems
    iexact HtileSems
  iexists W'; isplitr
  · ipureintro; intro p _
    rcases p.2 with _ | q
    · exact .inr (.inl rfl)
    · exact .inr (.inr (congrArg some (Subsingleton.elim q 0)))
  · iexact HO

/-- The call's body, as the program's table of bodies spells it. -/
theorem defs₀_scalar (c : Fin τ.nSC) :
    defs₀ (F := F) (.scScalar c) 0 ()
      = SparseCore.onCore hcore0 (fun c => cc0__lookup (coordsOf c) iW (Memref.isWhole_whole _) tW (Memref.isWhole_whole _) oW (Memref.isWhole_whole _)
          wW (Memref.isWhole_whole _) cc0_scratch1 cc0_scratch2 cc0_scoped0) ⟨⟩ c := rfl

/-- The launch's obligation for the call: every core that the call starts (there is one) runs `body_obl`. -/
theorem scalarObl : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  match c with
  | ⟨0, h⟩ => exact body_obl m d facts h O W hO

/-! ## What the launch starts with -/

/-- The ghost state of the handshakes; the kernel adds none. -/
def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

/-- The launch's ghost state is the handshakes', and nothing of the kernel's own. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main -/

abbrev t' : DevRef τ sig := Proc.devRef .tc (main_arg0 : Ref sig .tc)
abbrev b' : DevRef τ sig := Proc.devRef .tc (main_arg1 : Ref sig .tc)
abbrev e' : DevRef τ sig := Proc.devRef .tc (main_v0 : Ref sig .tc)
abbrev i' : DevRef τ sig := Proc.devRef .tc (main_v1 : Ref sig .tc)
abbrev o' : DevRef τ sig := Proc.devRef .tc (main_v2 : Ref sig .tc)
abbrev r' : DevRef τ sig := Proc.devRef .tc (main_v3 : Ref sig .tc)

/-- The flag widened to a word; that word as a one-element array; the kernel's [1, 128] result as a [128] array. -/
abbrev opWiden : HloOp τ sig (Elt F) :=
  StableHlo.unary main_arg1 main_v0 ((extui 32 · natLt_1_32) : (⟨S_, .i1⟩ : BufTy).Contents (Elt F) → (⟨S_, .i32⟩ : BufTy).Contents (Elt F))
abbrev opIdx : HloOp τ sig (Elt F) := StableHlo.reshape main_v0 main_v1 (rfl : (.i32 : EltTy) = .i32) shapeCasts_S_S1
abbrev opRes : HloOp τ sig (Elt F) := StableHlo.reshape main_v2 main_v3 (rfl : (.f32 : EltTy) = .f32) shapeCasts_S1x128_S128

/-- The TensorCore's arrays. -/
abbrev S6 : Finset (DevRef τ sig) := {t', b', e', i', o', r'}

omit [FloatOps F] in
theorem held_S6 (d : Dev nD) (W : Valuation τ sig (Elt F)) :
    (held (T d) S6 W : sProp 𝕄) = iprop((tLoc d ↦{fullShare} W t') ∗ (bLoc d ↦{fullShare} W b') ∗ ((SparseCore.T d).loc main_v0 ↦{fullShare} W e')
      ∗ (iLoc d ↦{fullShare} W i') ∗ (oLoc d ↦{fullShare} W o') ∗ rLoc d ↦{fullShare} W r') := by
  unfold held S6
  rw [SparseCore.bigSep_insert' (by decide), SparseCore.bigSep_insert' (by decide), SparseCore.bigSep_insert' (by decide),
    SparseCore.bigSep_insert' (by decide), SparseCore.bigSep_insert' (by decide), bigSep_singleton]

/-- The arrays' contents at launch. -/
def V0 (d : Dev nD) : Valuation τ sig (Elt F) := fun b => m (d, b)

omit [FloatOps F] in
theorem unscoped_held (d : Dev nD) : (unscopedBufs d (fun b => m ((SparseCore.T d).loc b)) : sProp 𝕄) = held (T d) S6 (V0 m d) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton, held_S6]
  rfl

/-- The contents when the call is made, and, with the kernel's result in place, when it returns. -/
def V2 (d : Dev nD) : Valuation τ sig (Elt F) := (opIdx (F := F)).result ((opWiden (F := F)).result (V0 m d))
def V3 (d : Dev nD) : Valuation τ sig (Elt F) := Function.update (V2 m d) o' (Row.picked (word m d) (m (tLoc d)))

/-- @main's operations before the call write the word and the index array only. -/
theorem V2_of (d : Dev nD) (b : DevRef τ sig) (h0 : b ≠ e') (h1 : b ≠ i') : V2 m d b = m (d, b) := by
  unfold V2
  rw [(opIdx (F := F)).result_of_not_mem _ (b := b) (fun h => h1 (Finset.mem_singleton.mp h)),
    (opWiden (F := F)).result_of_not_mem _ (b := b) (fun h => h0 (Finset.mem_singleton.mp h))]
  rfl

/-- The index array at the call. -/
theorem V2_i (d : Dev nD) : V2 m d i' = idxArr m d := by
  funext j
  rfl

theorem V3_of (d : Dev nD) (b : DevRef τ sig) (h : b ≠ o') : V3 m d b = V2 m d b := Function.update_of_ne h _ _
theorem V3_o (d : Dev nD) : V3 m d o' = Row.picked (word m d) (m (tLoc d)) := Function.update_self _ _ _

/-- The contents at the end: the result is the row that the flag chooses. -/
theorem V4_r (d : Dev nD) : (opRes (F := F)).result (V3 m d) r' = Row.chosen (m (bLoc d) ix0) (m (tLoc d)) := by
  refine Eq.trans ?_ (Row.reshape_picked (m (bLoc d) ix0) (m (tLoc d)))
  show shapeCast S128 (V3 m d o') shapeCasts_S1x128_S128 = _
  rw [V3_o]
  rfl

/-- Every other array ends as it was at launch. -/
theorem V4_of (d : Dev nD) (b : DevRef τ sig) (h0 : b ≠ e') (h1 : b ≠ i') (h2 : b ≠ o') (h3 : b ≠ r') :
    (opRes (F := F)).result (V3 m d) b = m (d, b) := by
  rw [(opRes (F := F)).result_of_not_mem _ (b := b) (fun h => h3 (Finset.mem_singleton.mp h)), V3_of m d b h2, V2_of m d b h0 h1]

/-- The arrays when the call is made, one by one. -/
theorem held_V2 (d : Dev nD) :
    (held (T d) S6 ((opIdx (F := F)).result ((opWiden (F := F)).result (V0 m d))) : sProp 𝕄)
      = iprop(tabPts m d ∗ flagPts m d ∗ ((SparseCore.T d).loc main_v0 ↦{fullShare} V2 m d e')
        ∗ idxPts m d ∗ (oLoc d ↦{fullShare} V2 m d o') ∗ rLoc d ↦{fullShare} V2 m d r') := by
  rw [show (opIdx (F := F)).result ((opWiden (F := F)).result (V0 m d)) = V2 m d from rfl, held_S6, V2_i,
    V2_of m d t' (by decide) (by decide), V2_of m d b' (by decide) (by decide)]

/-- The arrays at the end, one by one. -/
theorem held_V4 (d : Dev nD) :
    (held (T d) S6 ((opRes (F := F)).result (V3 m d)) : sProp 𝕄)
      = iprop(tabPts m d ∗ flagPts m d ∗ ((SparseCore.T d).loc main_v0 ↦{fullShare} (opRes (F := F)).result (V3 m d) e')
        ∗ (iLoc d ↦{fullShare} (opRes (F := F)).result (V3 m d) i') ∗ (oLoc d ↦{fullShare} (opRes (F := F)).result (V3 m d) o')
        ∗ rLoc d ↦{fullShare} Row.chosen (m (bLoc d) ix0) (m (tLoc d))) := by
  rw [held_S6, V4_r, V4_of m d t' (by decide) (by decide) (by decide) (by decide), V4_of m d b' (by decide) (by decide) (by decide) (by decide)]

/-- What the call takes for its one SparseCore, and what it hands back. -/
theorem st0_eq (d : Dev nD) : (bigSep Finset.univ fun c : Fin ((K (F := F)).nCore 0) => (P m).st 0 d c)
    = iprop(idxPts m d ∗ tabPts m d ∗ ∃ f, oLoc d ↦{fullShare} f) :=
  bigSep_univ_of_subsingleton (0 : Fin 1)
theorem dn0_eq (d : Dev nD) : (bigSep Finset.univ fun c : Fin ((K (F := F)).nCore 0) => (P m).dn 0 d c)
    = iprop(idxPts m d ∗ tabPts m d ∗ outPts m d) :=
  bigSep_univ_of_subsingleton (0 : Fin 1)

omit [FloatOps F] in
theorem hWiden : (opWiden (F := F)).bufs ⊆ S6 := show ({b', e'} : Finset (DevRef τ sig)) ⊆ S6 by decide
omit [FloatOps F] in
theorem hIdx : (opIdx (F := F)).bufs ⊆ S6 := show ({e', i'} : Finset (DevRef τ sig)) ⊆ S6 by decide
omit [FloatOps F] in
theorem hRes : (opRes (F := F)).bufs ⊆ S6 := show ({o', r'} : Finset (DevRef τ sig)) ⊆ S6 by decide

/-- What @main ends with: the two arguments at their launch contents, and the result at the row that the flag chooses. -/
abbrev FIN (d : Dev nD) : sProp 𝕄 :=
  iprop(tabPts m d ∗ flagPts m d ∗ rLoc d ↦{fullShare} Row.chosen (m (bLoc d) ix0) (m (tLoc d)))

/-- @main's run on device `d`'s TensorCore. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  -- the flag's word, and the index array
  iapply (wp_hlo_within 𝒱 (SparseCore.T d) none Set.univ (op := opWiden) (S := S6) hWiden (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opIdx) (S := S6) hIdx (V := (opWiden (F := F)).result (V0 m d))) $$ [Hb Hheld]
  · isplitl [Hb]; · iexact Hb
    iexact Hheld
  iintro ⟨Hb, Hheld⟩
  rw [wp_ret]; imodintro
  ihave Hh := (Entails.of_eq (held_V2 m d)) $$ Hheld
  icases Hh with ⟨Ht, Hf, He, Hi, Ho, Hr⟩
  -- the call
  iapply ((K (F := F)).wp_run (D (F := F)) 𝒱 (EH := EH) (P := P m) κ d 0) $$ [Hst Ht Hf He Hi Ho Hb Hr Hts]
  isplitr; · iexact Hctx
  isplitl [Hst]; · iexact Hst
  isplitl [Hi Ht Ho]
  · rw [st0_eq]
    isplitl [Hi]; · iexact Hi
    isplitl [Ht]; · iexact Ht
    iexists _; iexact Ho
  iintro ⟨Hst, Hdn⟩
  ihave Hdn' := (Entails.of_eq (dn0_eq m d)) $$ Hdn
  icases Hdn' with ⟨Hi, Ht, Ho⟩
  -- the reshape
  iapply (wp_hlo_within 𝒱 (SparseCore.T d) none Set.univ (op := opRes) (S := S6) hRes (V := V3 m d)) $$ [Hb Ht Hf He Hi Ho Hr]
  · isplitl [Hb]; · iexact Hb
    rw [held_S6, V3_o, V3_of m d t' (by decide), V3_of m d b' (by decide), V3_of m d e' (by decide), V3_of m d i' (by decide),
      V3_of m d r' (by decide), V2_i, V2_of m d t' (by decide) (by decide), V2_of m d b' (by decide) (by decide)]
    isplitl [Ht]; · iexact Ht
    isplitl [Hf]; · iexact Hf
    isplitl [He]; · iexact He
    isplitl [Hi]; · iexact Hi
    isplitl [Ho]; · iexact Ho
    iexact Hr
  iintro ⟨Hb, Hheld⟩
  ihave Hh := (Entails.of_eq (held_V4 m d)) $$ Hheld
  icases Hh with ⟨Ht, Hf, -, -, -, Hr⟩
  rw [wp_ret]; imodintro; imodintro
  isplitl [Hst]; · iexact Hst
  isplitr [Hb Hts]
  · isplitl [Ht]; · iexact Ht
    isplitl [Hf]; · iexact Hf
    iexact Hr
  isplitl [Hb] <;> iassumption

/-- What the final memory holds on device `d`. -/
def fq (d : Dev nD) (s' : Phys nD τ sig (Elt F)) : Prop :=
  s'.mem.mem (rLoc d) = Row.chosen (m (bLoc d) ix0) (m (tLoc d)) ∧ s'.mem.mem (tLoc d) = m (tLoc d) ∧ s'.mem.mem (bLoc d) = m (bLoc d)

/-- What @main ends with says what the final memory holds. -/
theorem hfin (d : Dev nD) (s' : Phys nD τ sig (Elt F)) : iprop(FIN m d ∗ SI s') ⊢ (⌜fq m d s'⌝ : sProp 𝕄) := by
  iintro ⟨⟨Ht, Hf, Hr⟩, HSI⟩
  ihave H := (persistent_entails_right (SI_pointsTo_agree (st := s') (ℓ := tLoc d) (I := Finset.univ) (q := fullShare) (f := m (tLoc d)))) $$ [HSI Ht]
  · isplitl [HSI] <;> iassumption
  icases H with ⟨%ht, HSI, -⟩
  ihave H := (persistent_entails_right (SI_pointsTo_agree (st := s') (ℓ := bLoc d) (I := Finset.univ) (q := fullShare) (f := m (bLoc d)))) $$ [HSI Hf]
  · isplitl [HSI] <;> iassumption
  icases H with ⟨%hb, HSI, -⟩
  ihave H := (SI_pointsTo_agree (st := s') (ℓ := rLoc d) (I := Finset.univ) (q := fullShare) (f := Row.chosen (m (bLoc d) ix0) (m (tLoc d)))) $$ [HSI Hr]
  · isplitl [HSI] <;> iassumption
  icases H with %hr
  ipureintro
  exact ⟨funext fun i => hr i (Finset.mem_univ i), funext fun i => ht i (Finset.mem_univ i), funext fun i => hb i (Finset.mem_univ i)⟩

/-! ## The program's run -/

/-- The result at the row that the flag chooses, the arguments unchanged; and every counter at zero. -/
def QC : PUnit × MemSt nD τ sig (Elt F) → Prop := fun r =>
  (∀ c : Dev nD, r.2.mem (rLoc c) = Row.chosen (m (bLoc c) ix0) (m (tLoc c)) ∧ r.2.mem (tLoc c) = m (tLoc c) ∧ r.2.mem (bLoc c) = m (bLoc c))
    ∧ r.2.sem = fun _ => 0

/-- The program's run, over any float values, from any memory: every weakly fair execution terminates with `QC`. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl m)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h hz => ⟨h, hz⟩)

end Cert.Proof.Lookup

end
-- ==== Proof.Reference.lean ====
/-
  The reference's term — the flag widened to a row number, the row number checked to be within the table, the row
  gathered, and a filler wherever the check fails — is the row that the flag chooses.
-/
module

public import Idealize.ShloMosaic.Lib.ReduceAll
public import proofs.«01_k».proof.Proof.Row
public import proofs.«01_k».proof.Proof.Gen.ReferenceIdeal
public import proofs.«01_k».proof.Proof.Gen.ReferenceIdeal.Run

@[expose] public section

noncomputable section

namespace Cert.Proof.Reference

open Cert.ReferenceIdeal Cert.ReferenceIdeal.Gen
open Idealize.ShloMosaic Idealize.ShloMosaic.ValueIdx Idealize.SL.Sem

/-- The row number that the reference computes from the flag: the flag widened to 32 bits, with the table's two rows
    added if that were negative, as an array of one element. -/
def rowNumber (b : S_.Idx → BitVec 1) : S1.Idx → BitVec 32 :=
  broadcastInDim S1 ![] bcast_S_S1
    (select (cmpi .slt (extui 32 b natLt_1_32) (constantI S_ 32 0#32)) (addi (extui 32 b natLt_1_32) (constantI S_ 32 2#32))
      (extui 32 b natLt_1_32))

/-- The reference's check that the row number is one of the table's: at least 0 and at most 1. -/
def inTable (b : S_.Idx → BitVec 1) : S_.Idx → BitVec 1 :=
  Host.reduce IntOp.andi (andi (cmpi .sge (rowNumber b) (broadcastInDim S1 ![] bcast_S_S1 (constantI S_ 32 0#32)))
    (cmpi .sle (rowNumber b) (constantI S1 32 1#32))) (constantI S_ 1 1#1) reducesTo_S1_S_d0 h_S_

/-- The row number is the flag as a word: 1 if the flag is set, and 0 otherwise. -/
theorem rowNumber_apply (b : S_.Idx → BitVec 1) (i : S1.Idx) : rowNumber b i = (b ix0).setWidth 32 := by
  have hb : ∀ c : BitVec 1, Scalar.select (IntOp.cmpi .slt (c.setWidth 32) 0#32) (IntOp.addi (c.setWidth 32) 2#32) (c.setWidth 32) = c.setWidth 32 := by
    decide
  obtain ⟨k, hk⟩ : ∃ k : S_.Idx, rowNumber b i
      = Scalar.select (IntOp.cmpi .slt ((b k).setWidth 32) 0#32) (IntOp.addi ((b k).setWidth 32) 2#32) ((b k).setWidth 32) := ⟨_, rfl⟩
  rw [hk, hb, show k = ix0 from eq_ix0 k]

/-- The check always passes. -/
theorem inTable_apply (b : S_.Idx → BitVec 1) (i : S_.Idx) : inTable b i = 1#1 := by
  have hb : ∀ c : BitVec 1, IntOp.andi (IntOp.cmpi .sge (c.setWidth 32) 0#32) (IntOp.cmpi .sle (c.setWidth 32) 1#32) = 1#1 := by
    decide
  refine Host.reduce_andi_one _ _ _ _ i rfl fun k => ?_
  refine Eq.trans ?_ (hb (b ix0))
  rw [← rowNumber_apply b k]
  rfl

/-- The gather along the table's rows at one row number reads, at column `j`, the table at row `k` (which the number, read signed and
    clamped to the last row, is `k`) and column `j`. -/
theorem gather_apply {α : Type} (t : S2x128.Idx → α) (r : S1.Idx → BitVec 32) (k : Fin 2) (j : Fin 128)
    (hk : min (r (ix1 (0 : Fin 1))).toInt.toNat 1 = k.val) :
    Host.gather gather_S2x128_S1_S128_0_0_n_n_0_0_1128 t r (ix1 j)
      = t (ix2 k j) := by
  unfold Host.gather
  congr 1
  funext a
  refine Fin.ext ?_
  show gather_S2x128_S1_S128_0_0_n_n_0_0_1128.start (ix1 j) r a + gather_S2x128_S1_S128_0_0_n_n_0_0_1128.batchCoord (ix1 j) a
    + gather_S2x128_S1_S128_0_0_n_n_0_0_1128.offCoord (ix1 j) a = _
  rw [GatherDims.batchCoord_eq_zero _ _ _ (List.not_mem_nil), Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    refine (dif_pos (List.mem_singleton.mpr rfl)).trans (Eq.trans ?_ hk)
    have hi : ∀ x y : S1.Idx, x = y := fun x y => funext fun a => match a with | ⟨0, _⟩ => Subsingleton.elim (α := Fin 1) _ _
    rw [hi (gather_S2x128_S1_S128_0_0_n_n_0_0_1128.siIdx (ix1 j) _) (ix1 (0 : Fin 1))]
    rfl
  | ⟨1, _⟩ =>
    have hs : gather_S2x128_S1_S128_0_0_n_n_0_0_1128.start (ix1 j) r (1 : Fin 2) = 0 := by
      unfold GatherDims.start
      exact dif_neg (by decide)
    have ho : gather_S2x128_S1_S128_0_0_n_n_0_0_1128.offCoord (ix1 j) (1 : Fin 2) = j.val := by
      unfold GatherDims.offCoord
      rw [dif_pos (by decide)]
      rfl
    exact (congrArg₂ (· + ·) hs ho).trans (Nat.zero_add _)

/-- The reference's term is the row that the flag chooses. -/
theorem term_eq {α : Type} (b : S_.Idx → BitVec 1) (t : S2x128.Idx → α) (z : S128.Idx → α) :
    select (broadcastInDim S128 ![] bcast_S_S128 (inTable b)) (Host.gather gather_S2x128_S1_S128_0_0_n_n_0_0_1128 t (rowNumber b)) z
      = Row.chosen (b ix0) t := by
  funext j
  obtain ⟨i, rfl⟩ : ∃ i : Fin 128, j = ix1 i := ⟨j 0, eq_ix1 j⟩
  have hr : ∀ c : BitVec 1, min (c.setWidth 32).toInt.toNat 1 = (if c = 1#1 then 1 else 0 : Fin 2).val := by decide
  have hc : broadcastInDim S128 ![] bcast_S_S128 (inTable b) (ix1 i) = 1#1 := inTable_apply b _
  show Scalar.select (broadcastInDim S128 ![] bcast_S_S128 (inTable b) (ix1 i)) _ _ = _
  rw [hc, select_one, gather_apply t (rowNumber b) (if b ix0 = 1#1 then 1 else 0) i (by rw [rowNumber_apply]; exact hr _)]
  rfl

variable {F : FTy → Type} [FloatOps F]

/-- The reference's run: on every device its result ends at the row of the table that the flag chooses, and its two
    arguments are as they were. -/
theorem run_main (m : (ℓ : Loc nD τ sig) → Buf (Elt F) ℓ) (ρ : Dev nD → PrngReg) :
    θ_run (Cert.ReferenceIdeal.defs (F := F)) (onTc (main (F := F))) ⟨m, fun _ => 0, ρ⟩ fun r => ∀ c : Dev nD,
      r.2.mem ((c.tc : Thread nD τ).loc main_v1)
          = Row.chosen (m ((c.tc : Thread nD τ).loc main_arg1) ix0) (m ((c.tc : Thread nD τ).loc main_arg0))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run Cert.ReferenceIdeal.defs _ _).mono
    (fun _ h c => ⟨(h c).1.trans (term_eq (m ((c.tc : Thread nD τ).loc main_arg1)) (m ((c.tc : Thread nD τ).loc main_arg0)) _), (h c).2⟩)
    (Cert.ReferenceIdeal.Value.run (F := F) m ρ)

end Cert.Proof.Reference

end
-- ==== Proof.lean ====
/-
  The proof of `Cert.Claim`: the frames of the kernel and the reference (over the reals and bit for bit), the kernel's
  ideal reading, and the equality of their results, over the reals (`algebraic`) and bit for bit (`bitexact`).
  Row.lean says which row is meant, Body.lean runs the scalar subcore's code, Launch.lean the whole program, Reference.lean
  the reference.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.ReferenceIdeal.Run
public import proofs.«01_k».proof.Proof.Launch
public import proofs.«01_k».proof.Proof.Reference
public import Idealize.ShloMosaic.Adequacy
public import Idealize.ShloMosaic.Init

@[expose] public section

noncomputable section

namespace Cert.Proof

open Idealize.ShloMosaic Idealize.SL.Sem
open Idealize.ShloMosaic.ValueIdx (ix0)

/-! ## The runs, at the floats of each claim

The kernel's program and the one its ideal reading is stated over have the same operations, and so have the reference's
two: one run over any float values serves both. -/

/-- The kernel's run at the bit-exact floats. -/
theorem kernel_run (m : (ℓ : Loc Cert.Kernel.nD Cert.Kernel.τ Cert.Kernel.sig) → Buf (Elt Bits) ℓ) (ρ : Dev Cert.Kernel.nD → PrngReg) :
    θ_run (Cert.Kernel.defs (F := Bits)) (Cert.Kernel.threads (F := Bits)) ⟨m, fun _ => 0, ρ⟩ (Lookup.QC (F := Bits) m) :=
  Lookup.run_main (F := Bits) m ρ

/-- The reference's run at the bit-exact floats. -/
theorem reference_run (m : (ℓ : Loc Cert.Reference.nD Cert.Reference.τ Cert.Reference.sig) → Buf (Elt Bits) ℓ) (ρ : Dev Cert.Reference.nD → PrngReg) :
    θ_run (Cert.Reference.defs (F := Bits)) (onTc (Cert.Reference.main (F := Bits))) ⟨m, fun _ => 0, ρ⟩ fun r => ∀ c : Dev Cert.Reference.nD,
      r.2.mem ((c.tc : Thread Cert.Reference.nD Cert.Reference.τ).loc Cert.Reference.main_v1)
          = Row.chosen (m ((c.tc : Thread Cert.Reference.nD Cert.Reference.τ).loc Cert.Reference.main_arg1) ix0)
              (m ((c.tc : Thread Cert.Reference.nD Cert.Reference.τ).loc Cert.Reference.main_arg0))
        ∧ r.2.mem ((c.tc : Thread Cert.Reference.nD Cert.Reference.τ).loc Cert.Reference.main_arg0) = m ((c.tc : Thread Cert.Reference.nD Cert.Reference.τ).loc Cert.Reference.main_arg0)
        ∧ r.2.mem ((c.tc : Thread Cert.Reference.nD Cert.Reference.τ).loc Cert.Reference.main_arg1) = m ((c.tc : Thread Cert.Reference.nD Cert.Reference.τ).loc Cert.Reference.main_arg1) :=
  Reference.run_main (F := Bits) m ρ

/-! ## The frames -/

/-- The kernel terminates, its arguments unchanged and every semaphore counter at zero. -/
theorem frame_kernel : Cert.quiescent_Kernel := fun m ρ _ =>
  (θ_run Cert.Kernel.defs _ _).mono (fun _ h => ⟨fun c => (h.1 c).2, h.2⟩) (kernel_run m ρ)

/-- So does the kernel read over the reals. -/
theorem frame_kernelIdeal : Cert.quiescent_KernelIdeal := fun m ρ _ =>
  (θ_run Cert.KernelIdeal.defs _ _).mono (fun _ h => ⟨fun c => (h.1 c).2, h.2⟩) (Lookup.run_main (F := Ideal) m ρ)

/-- So does the reference read over the reals (it has no semaphore). -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Reference.run_main (F := Ideal) m ρ)

/-- So does the reference. -/
theorem frame_reference : Cert.quiescent_Reference := fun m ρ _ =>
  (θ_run Cert.Reference.defs _ _).mono (fun r h => ⟨fun c => (h c).2, sem_eq_zero_of_no_sems (by decide) r.2⟩)
    (reference_run m ρ)

/-! ## The values -/

/-- Over the reals, from equal arguments, the kernel and the reference end with equal results: the row of the table that
    the flag chooses. -/
theorem algebraic : Cert.algebraic_KernelIdeal_ReferenceIdeal := by
  intro m ρ m' ρ' _ hagree
  refine ⟨fun c => Row.chosen (m (Lookup.bLoc c) ix0) (m (Lookup.tLoc c)), ?_, ?_⟩
  · exact (θ_run Cert.KernelIdeal.defs _ _).mono (fun _ h => h.1) (Lookup.run_main (F := Ideal) m ρ)
  · refine (θ_run Cert.ReferenceIdeal.defs _ _).mono (fun _ h c => ⟨(h c).1.trans ?_, (h c).2⟩) (Reference.run_main (F := Ideal) m' ρ')
    rw [(hagree c).1, (hagree c).2]

/-- Bit for bit, from equal arguments, the kernel and the reference end with equal results. -/
theorem bitexact : Cert.bitexact_Kernel_Reference := by
  intro m ρ m' ρ' _ hagree
  refine ⟨fun c => Row.chosen (m ((c.tc : Thread Cert.Kernel.nD Cert.Kernel.τ).loc Cert.Kernel.main_arg1) ix0)
    (m ((c.tc : Thread Cert.Kernel.nD Cert.Kernel.τ).loc Cert.Kernel.main_arg0)), ?_, ?_⟩
  · exact (θ_run Cert.Kernel.defs _ _).mono (fun _ h => h.1) (kernel_run m ρ)
  · refine (θ_run Cert.Reference.defs _ _).mono (fun _ h c => ⟨(h c).1.trans ?_, (h c).2⟩) (reference_run m' ρ')
    rw [(hagree c).1, (hagree c).2]

/-- Everything that is claimed. -/
theorem claim : Cert.Claim :=
  ⟨Cert.Kernel.Gen.facts, Cert.KernelIdeal.Gen.facts, Cert.ReferenceIdeal.Gen.facts, Cert.Reference.Gen.facts,
    frame_kernel, frame_kernelIdeal, frame_referenceIdeal, frame_reference, trivial, algebraic, bitexact⟩

end Cert.Proof

end
